-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_types_named_weights_finite [hPre_types_named_weights_finite : Cert.Pre_types_named_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_types_named_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_types_named_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_named_weights_finite [hPre_types_named_weights_finite : Cert.Pre_types_named_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_named_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_types_named_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_types_named_weights_finite [hKernelIdeal : Cert.KernelIdeal.Facts] [hPre_types_named_weights_finite : Cert.Pre_types_named_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_types_named_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_types_named_weights_finite [hReferenceIdeal : Cert.ReferenceIdeal.Facts] [hPre_types_named_weights_finite : Cert.Pre_types_named_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_named_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_types_named_weights_finite [hKernelIdeal : Cert.KernelIdeal.Facts] [hReferenceIdeal : Cert.ReferenceIdeal.Facts] [hPre_types_named_weights_finite : Cert.Pre_types_named_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_types_named_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_types_named_weights_finite : Cert.Pre_types_named_weights_finite.Facts),
    quiescent_Kernel (hKernel := hKernel)
    ∧ quiescent_KernelIdeal (hKernelIdeal := hKernelIdeal)
    ∧ quiescent_KernelIdeal_pre_types_named_weights_finite (hKernelIdeal := hKernelIdeal) (hPre_types_named_weights_finite := hPre_types_named_weights_finite)
    ∧ quiescent_ReferenceIdeal (hReferenceIdeal := hReferenceIdeal)
    ∧ quiescent_ReferenceIdeal_pre_types_named_weights_finite (hReferenceIdeal := hReferenceIdeal) (hPre_types_named_weights_finite := hPre_types_named_weights_finite)
    ∧ preserves_Kernel_KernelIdeal
    ∧ algebraic_KernelIdeal_ReferenceIdeal_pre_types_named_weights_finite (hKernelIdeal := hKernelIdeal) (hReferenceIdeal := hReferenceIdeal) (hPre_types_named_weights_finite := hPre_types_named_weights_finite)
-- ==== Pre_types_named_weights_finite.lean ====
abbrev S16384x128 : Shape := ⟨2, ![16384, 128]⟩
abbrev S1x1x3x128 : Shape := ⟨4, ![1, 1, 3, 128]⟩
abbrev S1x1 : Shape := ⟨2, ![1, 1]⟩
abbrev S16384x3 : Shape := ⟨2, ![16384, 3]⟩
abbrev S16384 : Shape := ⟨1, ![16384]⟩
abbrev S3x3 : Shape := ⟨2, ![3, 3]⟩
abbrev S4x128x128 : Shape := ⟨3, ![4, 128, 128]⟩
abbrev S4x128 : Shape := ⟨2, ![4, 128]⟩
abbrev S_ : Shape := ⟨0, ![]⟩

class Facts : Prop where
  bcast_S_S16384 : S_.BroadcastsInDim S16384 (![] : Fin 0 → Fin S16384.rank)
  bcast_S_S4x128 : S_.BroadcastsInDim S4x128 (![] : Fin 0 → Fin S4x128.rank)

variable [Facts]

def fn {F : FTy → Type} [FloatOps F] (main_arg0 : FVec F S16384x128 .f32) (main_arg1 : FVec F S1x1x3x128 .f32) (main_arg2 : IVec S1x1 32) (main_arg3 : FVec F S16384x3 .f32) (main_arg4 : IVec S16384 32) (main_arg5 : FVec F S3x3 .f32) (main_arg6 : FVec F S4x128x128 .f32) (main_arg7 : FVec F S4x128 .f32) (main_arg8 : FVec F S4x128 .f32) (main_arg9 : FVec F S_ .f32) : IVec S16384 1 × IVec S4x128 1 :=
  let main_c : IVec S_ 32 := constantI S_ 32 0#32
  let main_v0 : IVec S16384 32 := broadcastInDim S16384 ![] bcast_S_S16384 main_c
  let main_v1 : IVec S16384 1 := cmpi .sge main_arg4 main_v0
  let main_c_0 : IVec S_ 32 := constantI S_ 32 4#32
  let main_v2 : IVec S16384 32 := broadcastInDim S16384 ![] bcast_S_S16384 main_c_0
  let main_v3 : IVec S16384 1 := cmpi .slt main_arg4 main_v2
  let main_v4 : IVec S16384 1 := andi main_v1 main_v3
  let main_v5 : FVec F S4x128 .f32 := Host.absf main_arg8
  let main_cst : FVec F S_ .f32 := constant S_ .f32 0x7F800000#32
  let main_v6 : FVec F S4x128 .f32 := broadcastInDim S4x128 ![] bcast_S_S4x128 main_cst
  let main_v7 : IVec S4x128 1 := cmpf .olt main_v5 main_v6
  (main_v4, main_v7)
-- ==== Kernel.lean ====
abbrev S16384x128 : Shape := ⟨2, ![16384, 128]⟩
abbrev S1x1x3x128 : Shape := ⟨4, ![1, 1, 3, 128]⟩
abbrev S1x1 : Shape := ⟨2, ![1, 1]⟩
abbrev S16384x3 : Shape := ⟨2, ![16384, 3]⟩
abbrev S16384 : Shape := ⟨1, ![16384]⟩
abbrev S3x3 : Shape := ⟨2, ![3, 3]⟩
abbrev S4x128x128 : Shape := ⟨3, ![4, 128, 128]⟩
abbrev S4x128 : Shape := ⟨2, ![4, 128]⟩
abbrev S_ : Shape := ⟨0, ![]⟩
abbrev S8x1x2048 : Shape := ⟨3, ![8, 1, 2048]⟩
abbrev S8x1x128 : Shape := ⟨3, ![8, 1, 128]⟩
abbrev S1x1x2048 : Shape := ⟨3, ![1, 1, 2048]⟩
abbrev S1x1x128 : Shape := ⟨3, ![1, 1, 128]⟩
abbrev S2x2048x128 : Shape := ⟨3, ![2, 2048, 128]⟩
abbrev S2 : Shape := ⟨1, ![2]⟩
abbrev S1 : Shape := ⟨1, ![1]⟩
abbrev S1x2048x128 : Shape := ⟨3, ![1, 2048, 128]⟩
abbrev S2048x128 : Shape := ⟨2, ![2048, 128]⟩
abbrev S1x2048 : Shape := ⟨2, ![1, 2048]⟩
abbrev S16x1 : Shape := ⟨2, ![16, 1]⟩
abbrev S16x2048 : Shape := ⟨2, ![16, 2048]⟩
abbrev S2048x16 : Shape := ⟨2, ![2048, 16]⟩
abbrev S8x128 : Shape := ⟨2, ![8, 128]⟩
abbrev S16x128 : Shape := ⟨2, ![16, 128]⟩
abbrev S2048x8 : Shape := ⟨2, ![2048, 8]⟩
abbrev S1x128x128 : Shape := ⟨3, ![1, 128, 128]⟩
abbrev S128x128 : Shape := ⟨2, ![128, 128]⟩
abbrev S2048x1 : Shape := ⟨2, ![2048, 1]⟩
abbrev S128 : Shape := ⟨1, ![128]⟩
abbrev S1x128 : Shape := ⟨2, ![1, 128]⟩

abbrev nBuf : Space → Nat
  | .hbm => 18
  | .vmem => 8
  | .smem => 0
  | _ => 0

abbrev bufTy : (tb : Table) → Fin (tcTables nBuf tb) → BufTy
  | .hbm, ⟨0, _⟩ => ⟨S16384x128, .f32⟩
  | .hbm, ⟨1, _⟩ => ⟨S1x1x3x128, .f32⟩
  | .hbm, ⟨2, _⟩ => ⟨S1x1, .i32⟩
  | .hbm, ⟨3, _⟩ => ⟨S16384x3, .f32⟩
  | .hbm, ⟨4, _⟩ => ⟨S16384, .i32⟩
  | .hbm, ⟨5, _⟩ => ⟨S3x3, .f32⟩
  | .hbm, ⟨6, _⟩ => ⟨S4x128x128, .f32⟩
  | .hbm, ⟨7, _⟩ => ⟨S4x128, .f32⟩
  | .hbm, ⟨8, _⟩ => ⟨S4x128, .f32⟩
  | .hbm, ⟨9, _⟩ => ⟨S_, .f32⟩
  | .hbm, ⟨10, _⟩ => ⟨S8x1x2048, .i32⟩
  | .hbm, ⟨11, _⟩ => ⟨S8x1x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S1x1x2048, .i32⟩
  | .local _ .vmem, ⟨1, _⟩ => ⟨S1x1x2048, .i32⟩
  | .local _ .vmem, ⟨2, _⟩ => ⟨S4x128x128, .f32⟩
  | .local _ .vmem, ⟨3, _⟩ => ⟨S4x128, .f32⟩
  | .local _ .vmem, ⟨4, _⟩ => ⟨S4x128, .f32⟩
  | .local _ .vmem, ⟨5, _⟩ => ⟨S1x1x128, .f32⟩
  | .local _ .vmem, ⟨6, _⟩ => ⟨S1x1x128, .f32⟩
  | .local _ .vmem, ⟨7, _⟩ => ⟨S2x2048x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_43 : BitVec 32 := 1#32
  let v106 : BitVec 32 := Scalar.addi arg0 c1_i32_43
  let c2_i32_44 : BitVec 32 := 2#32
  let c0_i32_45 : BitVec 32 := 0#32
  let v107 : BitVec 1 := Scalar.cmpi .eq c2_i32_44 c0_i32_45
  let c1_i32_46 : BitVec 32 := 1#32
  let v108 : BitVec 32 := Scalar.select v107 c1_i32_46 c2_i32_44
  let v109 : BitVec 32 := Scalar.remsi v106 v108
  let c0_i32_48 : BitVec 32 := 0#32
  let v111 : BitVec 1 := Scalar.cmpi .slt v109 c0_i32_48
  let c0_i32_49 : BitVec 32 := 0#32
  let v112 : BitVec 1 := Scalar.cmpi .slt v108 c0_i32_49
  let v113 : BitVec 1 := Scalar.xori v111 v112
  let c0_i32_47 : BitVec 32 := 0#32
  let v110 : BitVec 1 := Scalar.cmpi .ne v109 c0_i32_47
  let v114 : BitVec 1 := Scalar.andi v113 v110
  let v115 : BitVec 32 := Scalar.addi v109 v108
  let v116 : BitVec 32 := Scalar.select v114 v115 v109
  ![v116.toNat]
def k0_off2 (i : grid0.Coords) : Fin 3 → Nat :=
  let arg0 : BitVec 32 := BitVec.ofNat 32 (i 0).val
  let c1_i32_43 : BitVec 32 := 1#32
  let v106 : BitVec 32 := Scalar.addi arg0 c1_i32_43
  let c2_i32_44 : BitVec 32 := 2#32
  let c0_i32_45 : BitVec 32 := 0#32
  let v107 : BitVec 1 := Scalar.cmpi .eq c2_i32_44 c0_i32_45
  let c1_i32_46 : BitVec 32 := 1#32
  let v108 : BitVec 32 := Scalar.select v107 c1_i32_46 c2_i32_44
  let v109 : BitVec 32 := Scalar.remsi v106 v108
  let c0_i32_48 : BitVec 32 := 0#32
  let v111 : BitVec 1 := Scalar.cmpi .slt v109 c0_i32_48
  let c0_i32_49 : BitVec 32 := 0#32
  let v112 : BitVec 1 := Scalar.cmpi .slt v108 c0_i32_49
  let v113 : BitVec 1 := Scalar.xori v111 v112
  let c0_i32_47 : BitVec 32 := 0#32
  let v110 : BitVec 1 := Scalar.cmpi .ne v109 c0_i32_47
  let v114 : BitVec 1 := Scalar.andi v113 v110
  let v115 : BitVec 32 := Scalar.addi v109 v108
  let v116 : BitVec 32 := Scalar.select v114 v115 v109
  let c0_i32_52 : BitVec 32 := 0#32
  let c0_i32_53 : BitVec 32 := 0#32
  ![v116.toNat, 0, 0]
def k0_off3 (i : grid0.Coords) : Fin 2 → Nat :=
  let arg0 : BitVec 32 := BitVec.ofNat 32 (i 0).val
  let c1_i32_50 : BitVec 32 := 1#32
  let v117 : BitVec 32 := Scalar.addi arg0 c1_i32_50
  let c2048_i32_51 : BitVec 32 := 2048#32
  let v118 : BitVec 32 := Scalar.muli v117 c2048_i32_51
  let c0_i32_54 : BitVec 32 := 0#32
  ![v118.toNat, 0]
def k0_off4 (i : grid0.Coords) : Fin 1 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  ![v16.toNat]
def k0_off5 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c0_i32_8 : BitVec 32 := 0#32
  ![v16.toNat, 0, 0]
def k0_off6 (i : grid0.Coords) : Fin 2 → Nat :=
  let arg0 : BitVec 32 := BitVec.ofNat 32 (i 0).val
  let c2048_i32 : BitVec 32 := 2048#32
  let v17 : BitVec 32 := Scalar.muli arg0 c2048_i32
  let c0_i32_9 : BitVec 32 := 0#32
  ![v17.toNat, 0]
def k0_off7 (i : grid0.Coords) : Fin 3 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v23 : Index := Scalar.indexCast v16
  let c0 : Index := 0#32
  let c0_10 : Index := 0#32
  ![v23.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x128 : Shape := ⟨2, ![16384, 128]⟩
abbrev S1x1x3x128 : Shape := ⟨4, ![1, 1, 3, 128]⟩
abbrev S1x1 : Shape := ⟨2, ![1, 1]⟩
abbrev S16384x3 : Shape := ⟨2, ![16384, 3]⟩
abbrev S16384 : Shape := ⟨1, ![16384]⟩
abbrev S3x3 : Shape := ⟨2, ![3, 3]⟩
abbrev S4x128x128 : Shape := ⟨3, ![4, 128, 128]⟩
abbrev S4x128 : Shape := ⟨2, ![4, 128]⟩
abbrev S_ : Shape := ⟨0, ![]⟩
abbrev S16384x1 : Shape := ⟨2, ![16384, 1]⟩
abbrev S1 : Shape := ⟨1, ![1]⟩
abbrev S16384x128x128 : Shape := ⟨3, ![16384, 128, 128]⟩
abbrev S16384x1x128 : Shape := ⟨3, ![16384, 1, 128]⟩

abbrev nBuf : Space → Nat
  | .hbm => 92
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S1x1x3x128, .f32⟩
  | .hbm, ⟨2, _⟩ => ⟨S1x1, .i32⟩
  | .hbm, ⟨3, _⟩ => ⟨S16384x3, .f32⟩
  | .hbm, ⟨4, _⟩ => ⟨S16384, .i32⟩
  | .hbm, ⟨5, _⟩ => ⟨S3x3, .f32⟩
  | .hbm, ⟨6, _⟩ => ⟨S4x128x128, .f32⟩
  | .hbm, ⟨7, _⟩ => ⟨S4x128, .f32⟩
  | .hbm, ⟨8, _⟩ => ⟨S4x128, .f32⟩
  | .hbm, ⟨9, _⟩ => ⟨S_, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x128x128, .f32⟩
  | .hbm, ⟨29, _⟩ => ⟨S16384x128x128, .i1⟩
  | .hbm, ⟨30, _⟩ => ⟨S_, .f32⟩
  | .hbm, ⟨31, _⟩ => ⟨S16384x128x128, .f32⟩
  | .hbm, ⟨32, _⟩ => ⟨S16384x128x128, .f32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384x128, .f32⟩
  | .hbm, ⟨52, _⟩ => ⟨S16384x128, .i1⟩
  | .hbm, ⟨53, _⟩ => ⟨S_, .f32⟩
  | .hbm, ⟨54, _⟩ => ⟨S16384x128, .f32⟩
  | .hbm, ⟨55, _⟩ => ⟨S16384x128, .f32⟩
  | .hbm, ⟨56, _⟩ => ⟨S_, .i32⟩
  | .hbm, ⟨57, _⟩ => ⟨S16384, .i32⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S16384x1, .i32⟩
  | .hbm, ⟨64, _⟩ => ⟨S1, .i32⟩
  | .hbm, ⟨65, _⟩ => ⟨S_, .i32⟩
  | .hbm, ⟨66, _⟩ => ⟨S16384x1, .i32⟩
  | .hbm, ⟨67, _⟩ => ⟨S16384x1, .i1⟩
  | .hbm, ⟨68, _⟩ => ⟨S1x1, .i32⟩
  | .hbm, ⟨69, _⟩ => ⟨S16384x1, .i32⟩
  | .hbm, ⟨70, _⟩ => ⟨S16384x1, .i1⟩
  | .hbm, ⟨71, _⟩ => ⟨S16384x1, .i1⟩
  | .hbm, ⟨72, _⟩ => ⟨S_, .i1⟩
  | .hbm, ⟨73, _⟩ => ⟨S16384, .i1⟩
  | .hbm, ⟨74, _⟩ => ⟨S16384x128, .f32⟩
  | .hbm, ⟨75, _⟩ => ⟨S16384x128, .i1⟩
  | .hbm, ⟨76, _⟩ => ⟨S_, .f32⟩
  | .hbm, ⟨77, _⟩ => ⟨S16384x128, .f32⟩
  | .hbm, ⟨78, _⟩ => ⟨S16384x128, .f32⟩
  | .hbm, ⟨79, _⟩ => ⟨S16384x1x128, .f32⟩
  | .hbm, ⟨80, _⟩ => ⟨S16384x1x128, .f32⟩
  | .hbm, ⟨81, _⟩ => ⟨S16384x128, .f32⟩
  | .hbm, ⟨82, _⟩ => ⟨S16384x128, .f32⟩
  | .hbm, ⟨83, _⟩ => ⟨S16384x128, .f32⟩
  | .hbm, ⟨84, _⟩ => ⟨S16384x128, .f32⟩
  | .hbm, ⟨85, _⟩ => ⟨S_, .f32⟩
  | .hbm, ⟨86, _⟩ => ⟨S16384, .f32⟩
  | .hbm, ⟨87, _⟩ => ⟨S16384, .f32⟩
  | .hbm, ⟨88, _⟩ => ⟨S16384, .f32⟩
  | .hbm, ⟨89, _⟩ => ⟨S_, .f32⟩
  | .hbm, ⟨90, _⟩ => ⟨S_, .f32⟩
  | .hbm, ⟨91, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v0 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v1 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_call2_cst : Ref sig .tc := ⟨.hbm, 76, rfl⟩
abbrev main_call2_v15 : Ref sig .tc := ⟨.hbm, 77, rfl⟩
abbrev main_v2 : Ref sig .tc := ⟨.hbm, 78, rfl⟩
abbrev main_v3 : Ref sig .tc := ⟨.hbm, 79, rfl⟩
abbrev main_v4 : Ref sig .tc := ⟨.hbm, 80, rfl⟩
abbrev main_v5 : Ref sig .tc := ⟨.hbm, 81, rfl⟩
abbrev main_v6 : Ref sig .tc := ⟨.hbm, 82, rfl⟩
abbrev main_v7 : Ref sig .tc := ⟨.hbm, 83, rfl⟩
abbrev main_v8 : Ref sig .tc := ⟨.hbm, 84, rfl⟩
abbrev main_cst : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_cst_0 : Ref sig .tc := ⟨.hbm, 89, rfl⟩
abbrev main_v12 : Ref sig .tc := ⟨.hbm, 90, rfl⟩
abbrev main_v13 : Ref sig .tc := ⟨.hbm, 91, rfl⟩

abbrev nD : Nat := 1
abbrev τ : Topo := Topo.v7x

variable {F : FTy → Type} [FloatOps F]
-- ==== Proof.Mask.lean ====
/- The one-hot mask of a block: row `r`, lane `j` holds one where `j` modulo 8 is the row's type, zero elsewhere; and
   what a product with such a row sums to. -/
module

public import proofs.«01_k».proof.Proof.Gen.KernelIdeal.Skeleton
public import Idealize.ShloMosaic.PureOps.Ideal
public import Idealize.ShloMosaic.Lib.Pointwise

@[expose] public section

set_option maxRecDepth 16384

noncomputable section

namespace Cert.KernelIdeal.Types

open Idealize.ShloMosaic Cert.KernelIdeal.Gen

/-- One at the row's type, zero at any other lane of the table's eight rows. -/
def hot (ty : Fin 4) (j : ℕ) : EReal := if j % 8 = ty.val then 1 else 0

/-- The lane's number modulo eight, as the body computes it: the remainder with its sign put right. -/
def laneMod (v : BitVec 32) : BitVec 32 :=
  Scalar.select
    (IntOp.andi (IntOp.xori (IntOp.cmpi .slt (IntOp.remsi .vector v 8#32) 0#32) (Scalar.cmpi .slt 8#32 0#32))
      (IntOp.cmpi .ne (IntOp.remsi .vector v 8#32) 0#32))
    (IntOp.addi (IntOp.remsi .vector v 8#32) 8#32) (IntOp.remsi .vector v 8#32)

/-- The body's comparison of a lane's number with a type, as one bit. -/
theorem laneMod_eq : ∀ (j : Fin 16) (ty : Fin 4),
    IntOp.cmpi .eq (laneMod (BitVec.ofNat 32 j.val)) (BitVec.ofNat 32 ty.val) = if j.val % 8 = ty.val then 1#1 else 0#1 := by
  decide

/-- The mask of a block, transposed, at row `r` and lane `j`. -/
theorem mask_apply (z : Vec Ideal S1x1x2048 .i32) (r : Fin 2048) (j : Fin 16) (ty : Fin 4)
    (hz : z (ix3 0 0 r) = BitVec.ofNat 32 ty.val) :
    k0_pay4 (F := Ideal) (k0_pay3 z) (iota .tc S16x1 32 [0] iota_S16x1_d0_w32) 8#32 (ix2 r j) = hot ty j.val := by
  pointwise [k0_pay4, k0_pay3]
  rw [hz]
  refine (congrArg (fun b => FloatOps.sitofp (F := Ideal) FTy.f32 (BitVec.setWidth 32 b)) (laneMod_eq j ty)).trans ?_
  unfold hot
  split
  · show ((((1#32 : BitVec 32).toInt : ℝ)) : EReal) = 1
    norm_num
  · show ((((0#32 : BitVec 32).toInt : ℝ)) : EReal) = 0
    norm_num

/-- The same mask in the format the products take. -/
theorem mask16_apply (z : Vec Ideal S1x1x2048 .i32) (r : Fin 2048) (j : Fin 16) (ty : Fin 4)
    (hz : z (ix3 0 0 r) = BitVec.ofNat 32 ty.val) :
    k0_pay5 (F := Ideal) (k0_pay3 z) (iota .tc S16x1 32 [0] iota_S16x1_d0_w32) 8#32 (ix2 r j) = hot ty j.val :=
  mask_apply z r j ty hz

/-- Four products, each kept only for its own type, sum with the type's bias to the type's product and bias. -/
theorem sum_kept4 (ty : Fin 4) (b : EReal) (a : Fin 4 → EReal) :
    b + a 0 * hot ty 0 + a 1 * hot ty 1 + a 2 * hot ty 2 + a 3 * hot ty 3 = a ty + b := by
  fin_cases ty <;> simp [hot, add_comm]

end Cert.KernelIdeal.Types

end
-- ==== Proof.Block.lean ====
/- What one grid point computes from its blocks: lane `h` of the row it writes is the sum over the block's 2048 rows of
   the row's hidden unit `h` times the output weight of the row's type. -/
module

public import proofs.«01_k».proof.Proof.Mask

@[expose] public section

set_option maxRecDepth 16384

noncomputable section

namespace Cert.KernelIdeal.Types

open Idealize.ShloMosaic Cert.KernelIdeal.Gen

/-- Slab `t` of the first layer's weights, as the body loads it. -/
def slab (w0 : Vec Ideal S4x128x128 .f32) (t : Fin 4) : Vec Ideal S1x128x128 .f32 := fun j => w0 (ix3 t (j 1) (j 2))

/-- The row numbers the mask compares with. -/
abbrev lanes : IVec S16x1 32 := iota .tc S16x1 32 [0] iota_S16x1_d0_w32

/-- The row one grid point writes, over the payloads of the body: `q` its block of descriptors, `z` its block of types,
    and the three tables. -/
def row (q : Vec Ideal S1x2048x128 .f32) (z : Vec Ideal S1x1x2048 .i32) (w0 : Vec Ideal S4x128x128 .f32)
    (b0 w1 : Vec Ideal S4x128 .f32) : Vec Ideal S1x1x128 .f32 :=
  k0_pay1 (F := Ideal) (k0_pay2 q) (k0_pay4 (F := Ideal) (k0_pay3 z) lanes 8#32) (k0_pay5 (F := Ideal) (k0_pay3 z) lanes 8#32)
    (k0_pay7 w1) (k0_pay8 (k0_pay2 q) (k0_pay3 z) lanes 8#32 b0 (slab w0 0)) (k0_pay9 (slab w0 1)) (slab w0 2) (slab w0 3)

/-- The bias of the row's type, then the product with the first type's weights where the row has that type: the
    bias table is padded with rows of zeros, which no lane selects. -/
theorem bias_apply (q : Vec Ideal S1x2048x128 .f32) (z : Vec Ideal S1x1x2048 .i32) (w : Vec Ideal S1x128x128 .f32)
    (b0 : Vec Ideal S4x128 .f32) (r : Fin 2048) (h : Fin 128) (ty : Fin 4) (hz : z (ix3 0 0 r) = BitVec.ofNat 32 ty.val) :
    k0_pay8 (F := Ideal) (k0_pay2 q) (k0_pay3 z) lanes 8#32 b0 w (ix2 r h)
      = b0 (ix2 ty h) + (∑ k : Fin 128, q (ix3 0 r k) * w (ix3 0 k h)) * hot ty 0 := by
  pointwise [k0_pay8, k0_pay2, k0_pay6]
  simp only [mask16_apply z r _ ty hz, mask_apply z r _ ty hz, mul_zero, Finset.sum_const_zero, add_zero]
  rw [show (∑ x : Fin 4, hot ty x.val * b0 (ix2 x h)) = b0 (ix2 ty h) by
    fin_cases ty <;> simp [Fin.sum_univ_succ, hot]]
  rfl

/-- The output weight of the row's type: the table holds the weights in lanes 0–3 and, in lanes 8–11, what rounding them
    left over, which is `W1 − W1` here and so nothing where the weights are finite. -/
theorem out_apply (w1 : Vec Ideal S4x128 .f32) (z : Vec Ideal S1x1x2048 .i32) (r : Fin 2048) (h : Fin 128) (ty : Fin 4)
    (hz : z (ix3 0 0 r) = BitVec.ofNat 32 ty.val) (hw : w1 (ix2 ty h) - w1 (ix2 ty h) = 0) :
    (∑ k : Fin 16, k0_pay5 (F := Ideal) (k0_pay3 z) lanes 8#32 (ix2 r k) * k0_pay7 w1 (ix2 k h)) = w1 (ix2 ty h) := by
  simp only [mask16_apply z r _ ty hz]
  pointwise [k0_pay7, k0_pay6]
  fin_cases ty <;> simp [Fin.sum_univ_succ, hot] <;> exact (congrArg (_ + ·) hw).trans (add_zero _)

/-- Lane `h` of the row a grid point writes, where `ty` names the types of the block's rows. -/
theorem row_apply (q : Vec Ideal S1x2048x128 .f32) (z : Vec Ideal S1x1x2048 .i32) (w0 : Vec Ideal S4x128x128 .f32)
    (b0 w1 : Vec Ideal S4x128 .f32) (h : Fin 128) (ty : Fin 2048 → Fin 4)
    (hz : ∀ r, z (ix3 0 0 r) = BitVec.ofNat 32 (ty r).val) (hw : ∀ t : Fin 4, w1 (ix2 t h) - w1 (ix2 t h) = 0) :
    row q z w0 b0 w1 (ix3 0 0 h)
      = ∑ r : Fin 2048, Ideal.tanh ((∑ k : Fin 128, q (ix3 0 r k) * w0 (ix3 (ty r) k h)) + b0 (ix2 (ty r) h))
          * w1 (ix2 (ty r) h) := by
  pointwise [row, k0_pay1, k0_pay9, slab]
  refine Finset.sum_congr rfl fun r _ => ?_
  rw [out_apply w1 z r h (ty r) (hz r) (hw _), bias_apply q z _ b0 r h (ty r) (hz r)]
  simp only [mask_apply z r _ (ty r) (hz r)]
  pointwise [k0_pay2, slab]
  have e := sum_kept4 (ty r) (b0 (ix2 (ty r) h)) fun t => ∑ k : Fin 128, q (ix3 0 r k) * w0 (ix3 t k h)
  exact congrArg (fun v => Ideal.tanh v * w1 (ix2 (ty r) h)) e

end Cert.KernelIdeal.Types

end
-- ==== Proof.Point.lean ====
/- What the body leaves in its output block at a grid point: the row of `Block` over the point's blocks, in each of the
   three cases of the double buffer's ring (the first point starts two transfers, the middle ones one, the last none). -/
module

public import proofs.«01_k».proof.Proof.Block
public import proofs.«01_k».proof.Proof.Gen.KernelIdeal.Frame
public import Idealize.ShloMosaic.Lib.WholeRead
public import Idealize.ShloMosaic.Lib.Pipeline.ValueKit
public import Idealize.ShloMosaic.Lib.Claim

@[expose] public section

set_option maxRecDepth 16384

noncomputable section

namespace Cert.KernelIdeal.Types

open Idealize.ShloMosaic Idealize.ShloMosaic.TcCoe Cert.KernelIdeal.Gen

/-- A block with its leading axis of one dropped, at an index. -/
theorem cast_apply (q : Vec Ideal S1x2048x128 .f32) (r : Fin 2048) (k : Fin 128) :
    shapeCast S2048x128 q shapeCasts_S1x2048x128_S2048x128 (ix2 r k) = q (ix3 0 r k) := by
  pointwise

/-- A slot of the double buffer, written whole, reads back what was written. -/
theorem slot_read (s : Fin 2) (f : (rslot0_0 s).view.ty.Contents (Elt Ideal)) (p : Vec Ideal S2048x128 .f32) (y : S2048x128.Idx) :
    (rslot0_0 s).view.read (Elt Ideal) ((rslot0_0 s).view.writes (Elt Ideal) f [⟨Rect.whole S2048x128, p⟩]) y = p y := by
  have e := View.read_writes_of_unique (rslot0_0 s).view (f := f)
    (⟨Rect.whole S2048x128, p⟩ : View.Piece (Elt Ideal) S2048x128 .f32) y [⟨Rect.whole S2048x128, p⟩] (by simp) (by simp)
  dsimp only at e
  rwa [Rect.emb_whole_apply] at e

/-- A slot of the double buffer, written whole, loads back what was written. -/
theorem slot_apply (s : Fin 2) {off : Fin 3 → ℕ} (ho : off = ![s.val, 0, 0])
    (h : ∀ a, off a + (![1, 2048, 128] : Fin 3 → ℕ) a ≤ S2x2048x128.size a)
    (f : (rslot0_0 s).view.ty.Contents (Elt Ideal)) (p : Vec Ideal S2048x128 .f32) (r : Fin 2048) (k : Fin 128) :
    View.readAt (Elt Ideal) (View.whole cc0_scratch0) (Rect.unit (s := S2x2048x128) off ![1, 2048, 128] h).toLoadRect
      ((rslot0_0 s).view.writes (Elt Ideal) f [⟨Rect.whole S2048x128, p⟩]) (ix3 0 r k) = p (ix2 r k) := by
  subst ho
  have e := slot_read s f p (ix2 r k)
  have e' := cast_apply (View.readAt (Elt Ideal) (View.whole cc0_scratch0)
    (Rect.unit (s := S2x2048x128) ![s.val, 0, 0] ![1, 2048, 128] h).toLoadRect
      ((rslot0_0 s).view.writes (Elt Ideal) f [⟨Rect.whole S2048x128, p⟩])) r k
  exact e'.symm.trans e

/-- Where each window's block lies at a grid point. -/
theorem idx : ∀ t : Fin cfg0.N, win0_0.index t = ![t.val, 0, 0] ∧ win0_1.index t = ![0, 0, 0] ∧ win0_2.index t = ![0, 0]
    ∧ win0_3.index t = ![0, 0] ∧ win0_4.index t = ![t.val, 0, 0] :=
  (by decide +kernel : ∀ t : Fin grid0.N, _)

variable (m : (ℓ : Loc nD τ sig) → Buf (Elt Ideal) ℓ)

/-- The region finds the types as the host reshaped them: 8 blocks of one row of 2048. -/
theorem v0_eq (c : Dev nD) : (V m c main_v0 : Vec Ideal S8x1x2048 .i32)
    = shapeCast S8x1x2048 (m ((c : Thread nD τ).loc main_arg4) : Vec Ideal S16384 .i32) shapeCasts_S16384_S8x1x2048 := by
  show StableHlo.after [StableHlo.reshape main_arg4 main_v0 (rfl : (.i32 : EltTy) = .i32) shapeCasts_S16384_S8x1x2048]
    (fun b => m (c, b)) ((.tc : Proc τ).devRef main_v0) = _
  entry_read
  rfl

/-- Row `r` of the block's types is row `2048·t + r` of the types. -/
theorem types_apply (c : Dev nD) (t : Fin cfg0.N) (r : Fin 2048) :
    (iblk m c 0 t : Vec Ideal S1x1x2048 .i32) (ix3 0 0 r) = (m ((c : Thread nD τ).loc main_arg4) : Vec Ideal S16384 .i32) (ix1 ⟨2048 * t.val + r.val, by have := t.isLt; have : cfg0.N = 8 := N_0; omega⟩) := by
  have e : (iblk m c 0 t : Vec Ideal S1x1x2048 .i32) (ix3 0 0 r) = (V m c main_v0 : Vec Ideal S8x1x2048 .i32) (ix3 ⟨t.val, t.isLt⟩ 0 r) := by
    blk_ext! [iblk, idx t]
  rw [e, v0_eq]
  pointwise
  blk_ext []

/-- The three tables are whole blocks, the same at every point. -/
theorem w0_eq (c : Dev nD) (t : Fin cfg0.N) : iblk m c 1 t = m ((c : Thread nD τ).loc main_arg6) := by
  blk_ext! [iblk, V, idx t]

theorem b0_eq (c : Dev nD) (t : Fin cfg0.N) : iblk m c 2 t = m ((c : Thread nD τ).loc main_arg7) := by
  blk_ext! [iblk, V, idx t]

theorem w1_eq (c : Dev nD) (t : Fin cfg0.N) : iblk m c 3 t = m ((c : Thread nD τ).loc main_arg8) := by
  blk_ext! [iblk, V, idx t]

/-- Row `r` of the block the transfer of point `t` brings is row `2048·t + r` of the descriptors. -/
theorem src_apply (c : Dev nD) (t : Fin cfg0.N) (r : Fin 2048) (k : Fin 128) :
    View.read (Elt Ideal) (srcB0_0 (Ring.bk 8 t.val)).view (V m c main_arg0) (ix2 r k)
      = (m ((c : Thread nD τ).loc main_arg0) : Vec Ideal S16384x128 .f32)
        (ix2 ⟨2048 * t.val + r.val, by have := t.isLt; have : cfg0.N = 8 := N_0; omega⟩ k) := by
  rw [V_main_arg0]
  unfold srcB0_0
  rw [View.read_apply]
  blk_ext []
  · show 2048 * (t.val % 8) + 1 * r.val = _
    omega
  · show 0 + 1 * k.val = _
    omega

/-- The block of descriptors of a grid point. -/
def desc (c : Dev nD) (t : Fin cfg0.N) : Vec Ideal S1x2048x128 .f32 := fun j =>
  (m ((c : Thread nD τ).loc main_arg0) : Vec Ideal S16384x128 .f32)
    (ix2 ⟨2048 * t.val + (j 1).val, by have := t.isLt; have : cfg0.N = 8 := N_0; have := (j 1).isLt; simp at this; omega⟩ (j 2))

/-- The slot the body loads, once the transfer of this point's block has landed in it. -/
theorem held_eq (c : Dev nD) (t : Fin cfg0.N) (h : ∀ a, k0_off7 (grid0.coords t) a + (![1, 2048, 128] : Fin 3 → ℕ) a ≤ S2x2048x128.size a)
    (f : (rslot0_0 (Ring.sl 2 t.val)).view.ty.Contents (Elt Ideal)) :
    View.readAt (Elt Ideal) (View.whole cc0_scratch0)
        (Rect.unit (s := S2x2048x128) (k0_off7 (grid0.coords t)) ![1, 2048, 128] h).toLoadRect
        ((rslot0_0 (Ring.sl 2 t.val)).view.writes (Elt Ideal) f
          [⟨Rect.whole S2048x128, View.read (Elt Ideal) (srcB0_0 (Ring.bk 8 t.val)).view (V m c main_arg0)⟩])
      = desc m c t := by
  funext (y : S1x2048x128.Idx)
  idx_vars y
  obtain rfl : y0 = 0 := Subsingleton.elim _ _
  refine Eq.trans ?_ ((slot_apply _ (coff0_0_10 t) h f (View.read (Elt Ideal) (srcB0_0 (Ring.bk 8 t.val)).view (V m c main_arg0)) y1 y2).trans (src_apply m c t y1 y2))
  rfl

/-- A load of one slab of the first layer's weights. -/
theorem ld_slab (w0 : Vec Ideal S4x128x128 .f32) (i : Fin 4) (h : ∀ a, (![i.val, 0, 0] : Fin 3 → ℕ) a + (![1, 128, 128] : Fin 3 → ℕ) a ≤ S4x128x128.size a) :
    (View.ld (Val := Elt Ideal) w0 (Rect.unit (s := S4x128x128) ![i.val, 0, 0] ![1, 128, 128] h) : Vec Ideal S1x128x128 .f32) = slab w0 i := by
  funext (y : S1x128x128.Idx)
  idx_vars y
  obtain rfl : y0 = 0 := Subsingleton.elim _ _
  pointwise [slab]

/-- The body's payloads over what it loads are the row over the block and the tables. -/
theorem row_of (q : Vec Ideal S1x2048x128 .f32) (z : Vec Ideal S1x1x2048 .i32) (w0 : Vec Ideal S4x128x128 .f32)
    (b0 w1 : Vec Ideal S4x128 .f32) :
    k0_pay1 (F := Ideal) (k0_pay2 q) (k0_pay4 (F := Ideal) (k0_pay3 z) lanes 8#32) (k0_pay5 (F := Ideal) (k0_pay3 z) lanes 8#32)
      (k0_pay7 w1)
      (k0_pay8 (k0_pay2 q) (k0_pay3 z) lanes 8#32 b0
        (View.ld (Val := Elt Ideal) w0 (Rect.unit ![0, 0, 0] ![1, 128, 128] inb_S4x128x128_S1x128x128_0_0_0)))
      (k0_pay9 (View.ld (Val := Elt Ideal) w0 (Rect.unit ![1, 0, 0] ![1, 128, 128] inb_S4x128x128_S1x128x128_1_0_0)))
      (View.ld (Val := Elt Ideal) w0 (Rect.unit ![2, 0, 0] ![1, 128, 128] inb_S4x128x128_S1x128x128_2_0_0))
      (View.ld (Val := Elt Ideal) w0 (Rect.unit ![3, 0, 0] ![1, 128, 128] inb_S4x128x128_S1x128x128_3_0_0))
    = row q z w0 b0 w1 := by
  unfold row
  rw [← ld_slab w0 0 inb_S4x128x128_S1x128x128_0_0_0, ← ld_slab w0 1 inb_S4x128x128_S1x128x128_1_0_0,
    ← ld_slab w0 2 inb_S4x128x128_S1x128x128_2_0_0, ← ld_slab w0 3 inb_S4x128x128_S1x128x128_3_0_0]
  rfl

/-- The first point. -/
theorem out_A (c : Dev nD) (t : Fin cfg0.N) (h0 : t.val % 8 = 0) (h1 : t.val < 7) :
    outsAt0 m c t.val t.isLt = row (desc m c t) (iblk m c 0 t) (m ((c : Thread nD τ).loc main_arg6))
      (m ((c : Thread nD τ).loc main_arg7)) (m ((c : Thread nD τ).loc main_arg8)) := by
  rw [outsAt0_A m c t h0 h1]
  frame_out
  refine (row_of _ _ _ _ _).trans ?_
  rw [w0_eq, b0_eq, w1_eq]
  exact congrArg (fun q => row q _ _ _ _) (held_eq m c t _ _)

/-- The points between. -/
theorem out_B (c : Dev nD) (t : Fin cfg0.N) (h0 : ¬t.val % 8 = 0) (h1 : t.val < 7) :
    outsAt0 m c t.val t.isLt = row (desc m c t) (iblk m c 0 t) (m ((c : Thread nD τ).loc main_arg6))
      (m ((c : Thread nD τ).loc main_arg7)) (m ((c : Thread nD τ).loc main_arg8)) := by
  rw [outsAt0_B m c t h0 h1]
  frame_out
  refine (row_of _ _ _ _ _).trans ?_
  rw [w0_eq, b0_eq, w1_eq]
  exact congrArg (fun q => row q _ _ _ _) (held_eq m c t _ _)

/-- The last point. -/
theorem out_C (c : Dev nD) (t : Fin cfg0.N) (h0 : ¬t.val % 8 = 0) (h1 : ¬t.val < 7) :
    outsAt0 m c t.val t.isLt = row (desc m c t) (iblk m c 0 t) (m ((c : Thread nD τ).loc main_arg6))
      (m ((c : Thread nD τ).loc main_arg7)) (m ((c : Thread nD τ).loc main_arg8)) := by
  rw [outsAt0_C m c t h0 h1]
  frame_out
  refine (row_of _ _ _ _ _).trans ?_
  rw [w0_eq, b0_eq, w1_eq]
  exact congrArg (fun q => row q _ _ _ _) (held_eq m c t _ _)

/-- At every grid point the body leaves the row over the point's blocks. -/
theorem out_eq (c : Dev nD) (t : Fin cfg0.N) :
    outsAt0 m c t.val t.isLt = row (desc m c t) (iblk m c 0 t) (m ((c : Thread nD τ).loc main_arg6))
      (m ((c : Thread nD τ).loc main_arg7)) (m ((c : Thread nD τ).loc main_arg8)) := by
  by_cases h0 : t.val % 8 = 0
  · exact out_A m c t h0 (by have := t.isLt; have : cfg0.N = 8 := N_0; omega)
  · by_cases h1 : t.val < 7
    · exact out_B m c t h0 h1
    · exact out_C m c t h0 h1

end Cert.KernelIdeal.Types

end
-- ==== Proof.Array.lean ====
/- The array the launch leaves, and the scalar the host lines make of it. -/
module

public import proofs.«01_k».proof.Proof.Point

@[expose] public section

set_option maxRecDepth 16384

noncomputable section

namespace Cert.KernelIdeal.Types

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The row of grid point `t`. -/
def rowAt (c : Dev nD) (t : Fin cfg0.N) : Vec Ideal S1x1x128 .f32 :=
  row (desc m c t) (iblk m c 0 t) (m ((c : Thread nD τ).loc main_arg6)) (m ((c : Thread nD τ).loc main_arg7))
    (m ((c : Thread nD τ).loc main_arg8))

/-- The launch's result: row `t` is what point `t` wrote. -/
def rows (c : Dev nD) : Vec Ideal S8x1x128 .f32 := fun j => rowAt m c ⟨(j 0).val, (j 0).isLt⟩ (ix3 0 0 (j 2))

/-- The array the launch leaves: each point's block is its row, and the blocks tile the array. -/
theorem arr_eq (c : Dev nD) : (dats m 0 c).arrAt 4 cfg0.N = rows m c := by
  refine (dats m 0 c).arrAt_eq_of_covers 4 _ (by decide +kernel) fun t hf y => ?_
  blk_simp
  rw [after0_4, out_eq]
  change S1x1x128.Idx at y
  have h0 : (((win0_4.blk t).view.emb y) 0).val = t.val := by
    have := (y 0).isLt
    blk_simp [idx t]
  have h2 : (ix3 0 0 (((win0_4.blk t).view.emb y) 2) : S1x1x128.Idx) = y := by
    blk_ext [idx t]
  show _ = rowAt m c ⟨(((win0_4.blk t).view.emb y) 0).val, _⟩ (ix3 0 0 (((win0_4.blk t).view.emb y) 2) : S1x1x128.Idx)
  rw [h2]
  have ht : (⟨(((win0_4.blk t).view.emb y) 0).val, (((win0_4.blk t).view.emb y) 0).isLt⟩ : Fin cfg0.N) = t := Fin.ext h0
  rw [ht]
  rfl

/-- The scalar @main returns. -/
def result (c : Dev nD) : FVec Ideal S_ .f32 :=
  Host.negf (F := Ideal) (addf (Host.reduceAdd (rows m c) (constant S_ .f32 0x00000000#32) reducesTo_S8x1x128_S_d0_1_2 h_S_)
    (mulf (constant S_ .f32 0x46800000#32) (m ((c : Thread nD τ).loc main_arg9) : FVec Ideal S_ .f32)))

/-- The host lines after the launch read its array and the last argument. -/
theorem tail_eq (c : Dev nD) : Pipeline.afterTail₀ cfgs (dats m) 0 (V0 m) [hostOps1] c main_v5 = result m c := by
  have e1 : Pipeline.withArrays (cfgs 0).spec c (V0 m c) (fun w => (dats m 0 c).arrAt w (cfgs 0).N) ((.tc : Proc τ).devRef main_v1)
      = rows m c := (Pipeline.withArrays_arr spec0 winFacts0.arr_inj c _ _ 4).trans (arr_eq m c)
  have e9 : Pipeline.withArrays (cfgs 0).spec c (V0 m c) (fun w => (dats m 0 c).arrAt w (cfgs 0).N) ((.tc : Proc τ).devRef main_arg9)
      = m ((c : Thread nD τ).loc main_arg9) :=
    (Pipeline.withArrays_of_ne spec0 c _ _ main_arg9 (by exact (by decide : ∀ w, Pipeline.arrRef spec0 w ≠ main_arg9))).trans (V_main_arg9 m c)
  unfold Pipeline.afterTail₀
  show StableHlo.after hostOps1 _ ((.tc : Proc τ).devRef main_v5) = _
  unfold hostOps1
  after_results
  rw [e1, e9]
  rfl

/-- The run: it ends with the result at `result` and every argument as it was launched. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h.1 c).2 main_v5 (by decide)).trans (tail_eq m c), h.2 c⟩)
    (θ_run_and (run_main m ρ) (unchanged m ρ))

end Cert.KernelIdeal.Types

end
-- ==== Proof.Total.lean ====
/- The kernel's scalar as a sum over all the rows: the eight blocks' sums joined, the bias counted once per row. -/
module

public import proofs.«01_k».proof.Proof.Array

@[expose] public section

set_option maxRecDepth 16384

noncomputable section

namespace Cert.KernelIdeal.Types

open Idealize.ShloMosaic Idealize.ShloMosaic.TcCoe Idealize.SL.Sem Cert.KernelIdeal Cert.KernelIdeal.Gen

/-- Row `r` of block `t`, counted over the whole array. -/
def blockRow (t : Fin 8) (r : Fin 2048) : Fin 16384 := ⟨2048 * t.val + r.val, by omega⟩

/-- A sum over all rows is the blocks' sums joined. -/
theorem sum_blocks (f : Fin 16384 → EReal) : ∑ i, f i = ∑ t : Fin 8, ∑ r : Fin 2048, f (blockRow t r) := by
  rw [← Fintype.sum_prod_type' (f := fun t r => f (blockRow t r))]
  refine (Fintype.sum_equiv (finProdFinEquiv (m := 8) (n := 2048)) _ f fun x => congrArg f (Fin.ext ?_)).symm
  simp only [blockRow, finProdFinEquiv_apply_val]
  omega

/-- The printed count of the rows is 16384. -/
theorem count_eq : Ideal.ofBits .f32 0x46800000#32 = ((16384 : ℕ) : EReal) := by
  simp [Ideal.ofBits, Ideal.ieee]
  rw [← EReal.coe_mul]
  norm_num
  norm_cast

/-- The count times the bias is the bias added once per row, infinite or not. -/
theorem count_mul (b : EReal) : Ideal.ofBits .f32 0x46800000#32 * b = ∑ _i : Fin 16384, b := by
  rw [count_eq, Finset.sum_const, Finset.card_univ, Fintype.card_fin, EReal.nsmul_eq_mul]

variable (m : (ℓ : Loc nD τ sig) → Buf (Elt Ideal) ℓ)

/-- A row of the given types through its own weights: one row's term at one hidden lane. -/
def term (q : FVec Ideal S16384x128 .f32) (w0 : FVec Ideal S4x128x128 .f32) (b0 w1 : FVec Ideal S4x128 .f32)
    (ty : Fin 16384 → Fin 4) (i : Fin 16384) (h : Fin 128) : EReal :=
  Ideal.tanh ((∑ k : Fin 128, q (ix2 i k) * w0 (ix3 (ty i) k h)) + b0 (ix2 (ty i) h)) * w1 (ix2 (ty i) h)

/-- Every weight cancels with itself: none is infinite. -/
def Cancels (w : FVec Ideal S4x128 .f32) : Prop := ∀ t h, w (ix2 t h) - w (ix2 t h) = 0

section
variable (c : Dev nD) (ty : Fin 16384 → Fin 4)
  (hz : ∀ i, (m ((c : Thread nD τ).loc main_arg4) : IVec S16384 32) (ix1 i) = BitVec.ofNat 32 (ty i).val)
  (hw : Cancels (m ((c : Thread nD τ).loc main_arg8)))
include hz hw

/-- A block's row: at each hidden lane, the block's terms summed. -/
theorem rows_apply (t : Fin 8) (h : Fin 128) : rows m c (ix3 t 0 h) = ∑ r : Fin 2048,
    term (m ((c : Thread nD τ).loc main_arg0)) (m ((c : Thread nD τ).loc main_arg6)) (m ((c : Thread nD τ).loc main_arg7))
      (m ((c : Thread nD τ).loc main_arg8)) ty (blockRow t r) h := by
  show rowAt m c ⟨t.val, _⟩ (ix3 0 0 h) = _
  unfold rowAt
  rw [row_apply _ _ _ _ _ h (fun r => ty (blockRow t r)) (fun r => (types_apply m c ⟨t.val, t.isLt⟩ r).trans (hz _)) (fun s => hw s h)]
  rfl

/-- The scalar: minus the sum, over the rows, of the row's terms and the bias. -/
theorem result_apply : result m c ix0 = -(∑ i : Fin 16384, ((∑ h : Fin 128,
    term (m ((c : Thread nD τ).loc main_arg0)) (m ((c : Thread nD τ).loc main_arg6)) (m ((c : Thread nD τ).loc main_arg7))
      (m ((c : Thread nD τ).loc main_arg8)) ty i h) + (m ((c : Thread nD τ).loc main_arg9) : FVec Ideal S_ .f32) ix0)) := by
  rw [Finset.sum_add_distrib, sum_blocks, ← count_mul]
  pointwise [result]
  refine congrArg (fun x : EReal => -(x + _)) (Finset.sum_congr rfl fun t _ => ?_)
  rw [Fintype.sum_unique, Finset.sum_comm]
  exact Finset.sum_congr rfl fun h _ => rows_apply m c ty hz hw t h

end

end Cert.KernelIdeal.Types

end
-- ==== Proof.Gather.lean ====
/- A table's row taken at a type: the reference's lookups at an index. -/
module

public import proofs.«01_k».proof.Proof.Gen.ReferenceIdeal.Run
public import Idealize.ShloMosaic.PureOps.Ideal
public import Idealize.ShloMosaic.Lib.Pointwise
public import Idealize.ShloMosaic.Lib.Tactic.CleanTypes
public import Idealize.ShloMosaic.Lib.Tactic.WordOmega

@[expose] public section

set_option maxRecDepth 16384

noncomputable section

namespace Cert.ReferenceIdeal.Types

open Idealize.ShloMosaic Cert.ReferenceIdeal Cert.ReferenceIdeal.Gen

variable {α : Type}

/-- The matrix of the type: entry `(i, k, h)` of the lookup is the table's `(type of i, k, h)`. -/
theorem gather_matrix (x : S4x128x128.Idx → α) (idx : IVec S16384x1 32) (i : Fin 16384) (k h : Fin 128) (ty : Fin 4)
    (hi : idx (ix2 i 0) = BitVec.ofNat 32 ty.val) :
    Host.gather gather_S4x128x128_S16384x1_S16384x128x128_12_0_n_n_0_1_1128128 x idx (ix3 i k h) = x (ix3 ty k h) := by
  unfold Host.gather
  refine congrArg x (funext fun a => Fin.ext ?_)
  generalize hd : gather_S4x128x128_S16384x1_S16384x128x128_12_0_n_n_0_1_1128128 = d
  have hb : ∀ a', a' ∉ d.operandBatchingDims := fun a' => by subst hd; exact List.not_mem_nil
  match a with
  | ⟨0, _⟩ =>
    show d.start (ix3 i k h) idx 0 + d.batchCoord (ix3 i k h) 0 + d.offCoord (ix3 i k h) 0 = ty.val
    rw [d.batchCoord_eq_zero _ _ (hb 0), d.offCoord_eq_zero _ _ (by subst hd; decide)]
    subst hd
    unfold GatherDims.start
    rw [dif_pos (by decide)]
    have hsi : GatherDims.siIdx gather_S4x128x128_S16384x1_S16384x128x128_12_0_n_n_0_1_1128128 (ix3 i k h) ⟨0, by decide⟩ = ix2 i (0 : Fin 1) := by
      funext b
      match b with
      | ⟨0, _⟩ => rfl
      | ⟨1, _⟩ => rfl
    have hs : ∀ z, GatherDims.siIdx gather_S4x128x128_S16384x1_S16384x128x128_12_0_n_n_0_1_1128128 (ix3 i k h) z = ix2 i (0 : Fin 1) := by
      intro z
      obtain rfl : z = ⟨0, by decide⟩ := Subsingleton.elim (α := Fin 1) _ _
      exact hsi
    rw [hs, hi]
    show min ((BitVec.ofNat 32 ty.val).toInt.toNat) 3 = ty.val
    fin_cases ty <;> rfl
  | ⟨1, _⟩ =>
    show d.start (ix3 i k h) idx 1 + d.batchCoord (ix3 i k h) 1 + d.offCoord (ix3 i k h) 1 = k.val
    rw [d.batchCoord_eq_zero _ _ (hb 1)]
    subst hd
    unfold GatherDims.start GatherDims.offCoord
    rw [dif_neg (by decide), dif_pos (by decide), Nat.zero_add]
    rfl
  | ⟨2, _⟩ =>
    show d.start (ix3 i k h) idx 2 + d.batchCoord (ix3 i k h) 2 + d.offCoord (ix3 i k h) 2 = h.val
    rw [d.batchCoord_eq_zero _ _ (hb 2)]
    subst hd
    unfold GatherDims.start GatherDims.offCoord
    rw [dif_neg (by decide), dif_pos (by decide), Nat.zero_add]
    rfl

/-- The row of the type: entry `(i, h)` of the lookup is the table's `(type of i, h)`. -/
theorem gather_row (x : S4x128.Idx → α) (idx : IVec S16384x1 32) (i : Fin 16384) (h : Fin 128) (ty : Fin 4)
    (hi : idx (ix2 i 0) = BitVec.ofNat 32 ty.val) :
    Host.gather gather_S4x128_S16384x1_S16384x128_1_0_n_n_0_1_1128 x idx (ix2 i h) = x (ix2 ty h) := by
  unfold Host.gather
  refine congrArg x (funext fun a => Fin.ext ?_)
  generalize hd : gather_S4x128_S16384x1_S16384x128_1_0_n_n_0_1_1128 = d
  have hb : ∀ a', a' ∉ d.operandBatchingDims := fun a' => by subst hd; exact List.not_mem_nil
  match a with
  | ⟨0, _⟩ =>
    show d.start (ix2 i h) idx 0 + d.batchCoord (ix2 i h) 0 + d.offCoord (ix2 i h) 0 = ty.val
    rw [d.batchCoord_eq_zero _ _ (hb 0), d.offCoord_eq_zero _ _ (by subst hd; decide)]
    subst hd
    unfold GatherDims.start
    rw [dif_pos (by decide)]
    have hsi : GatherDims.siIdx gather_S4x128_S16384x1_S16384x128_1_0_n_n_0_1_1128 (ix2 i h) ⟨0, by decide⟩ = ix2 i (0 : Fin 1) := by
      funext b
      match b with
      | ⟨0, _⟩ => rfl
      | ⟨1, _⟩ => rfl
    have hs : ∀ z, GatherDims.siIdx gather_S4x128_S16384x1_S16384x128_1_0_n_n_0_1_1128 (ix2 i h) z = ix2 i (0 : Fin 1) := by
      intro z
      obtain rfl : z = ⟨0, by decide⟩ := Subsingleton.elim (α := Fin 1) _ _
      exact hsi
    rw [hs, hi]
    show min ((BitVec.ofNat 32 ty.val).toInt.toNat) 3 = ty.val
    fin_cases ty <;> rfl
  | ⟨1, _⟩ =>
    show d.start (ix2 i h) idx 1 + d.batchCoord (ix2 i h) 1 + d.offCoord (ix2 i h) 1 = h.val
    rw [d.batchCoord_eq_zero _ _ (hb 1)]
    subst hd
    unfold GatherDims.start GatherDims.offCoord
    rw [dif_neg (by decide), dif_pos (by decide), Nat.zero_add]
    rfl

end Cert.ReferenceIdeal.Types

end
-- ==== Proof.Reference.lean ====
/- What the reference computes: the double sum over the rows and the hidden lanes, each row through its own type's weights. -/
module

public import proofs.«01_k».proof.Proof.Gather

@[expose] public section

set_option maxRecDepth 16384

noncomputable section

namespace Cert.ReferenceIdeal.Types

open Idealize.ShloMosaic Cert.ReferenceIdeal Cert.ReferenceIdeal.Gen

/-- The rows' types as a column of start indices, a negative one moved up by 4. -/
def wrap (z : IVec S16384 32) : IVec S16384x1 32 :=
  broadcastInDim S16384x1 ![0] bcast_S16384_S16384x1_0
    (select (cmpi .slt z (broadcastInDim S16384 ![] bcast_S_S16384 (constantI S_ 32 0#32)))
      (addi z (broadcastInDim S16384 ![] bcast_S_S16384 (constantI S_ 32 4#32))) z)

/-- The rows whose start index lies in the table. -/
def inTable (x : IVec S16384x1 32) : IVec S16384 1 :=
  Host.reduce IntOp.andi
    (andi (cmpi .sge x (broadcastInDim S16384x1 ![] bcast_S_S16384x1 (constantI S_ 32 0#32)))
      (cmpi .sle x (broadcastInDim S16384x1 ![0, 1] bcast_S1x1_S16384x1_0_1
        (broadcastInDim S1x1 ![1] bcast_S1_S1x1_1 (constantI S1 32 3#32)))))
    (constantI S_ 1 1#1) reducesTo_S16384x1_S16384_d1 h_S_

/-- Each row's weight matrix. -/
def matrices (z : IVec S16384 32) (w : FVec Ideal S4x128x128 .f32) : FVec Ideal S16384x128x128 .f32 :=
  select (broadcastInDim S16384x128x128 ![0] bcast_S16384_S16384x128x128_0 (inTable (wrap z)))
    (Host.gather gather_S4x128x128_S16384x1_S16384x128x128_12_0_n_n_0_1_1128128 w (wrap z))
    (broadcastInDim S16384x128x128 ![] bcast_S_S16384x128x128 (constant S_ .f32 0x7FC00000#32))

/-- Each row's vector out of a table of one vector per type. -/
def vectors (z : IVec S16384 32) (w : FVec Ideal S4x128 .f32) : FVec Ideal S16384x128 .f32 :=
  select (broadcastInDim S16384x128 ![0] bcast_S16384_S16384x128_0 (inTable (wrap z)))
    (Host.gather gather_S4x128_S16384x1_S16384x128_1_0_n_n_0_1_1128 w (wrap z))
    (broadcastInDim S16384x128 ![] bcast_S_S16384x128 (constant S_ .f32 0x7FC00000#32))

/-- The reference's scalar, as its lines compose. -/
def scalar (q : FVec Ideal S16384x128 .f32) (z : IVec S16384 32) (w0 : FVec Ideal S4x128x128 .f32) (b0 w1 : FVec Ideal S4x128 .f32)
    (b1 : FVec Ideal S_ .f32) : FVec Ideal S_ .f32 :=
  Host.negf (Host.reduceAdd (addf (Host.reduceAdd (mulf (Host.tanh (addf
    (shapeCast S16384x128 (Host.dotGeneral dot_S16384x1x128_S16384x128x128_S16384x1x128_2_1_1_2_0_0 none
      (broadcastInDim S16384x1x128 ![0, 2] bcast_S16384x128_S16384x1x128_0_2 q) (matrices z w0)) shapeCasts_S16384x1x128_S16384x128)
    (vectors z b0))) (vectors z w1)) (constant S_ .f32 0x00000000#32) reducesTo_S16384x128_S16384_d1 h_S_)
    (broadcastInDim S16384 ![] bcast_S_S16384 b1)) (constant S_ .f32 0x00000000#32) reducesTo_S16384_S_d0 h_S_)

/-- The generated term is that scalar. -/
theorem res_eq (m : (ℓ : Loc nD τ sig) → Buf (Elt Ideal) ℓ) (c : Dev nD) :
    Value.res_main_v13 (F := Ideal) m c = scalar (m ((c.tc : Thread nD τ).loc main_arg0)) (m ((c.tc : Thread nD τ).loc main_arg4))
      (m ((c.tc : Thread nD τ).loc main_arg6)) (m ((c.tc : Thread nD τ).loc main_arg7)) (m ((c.tc : Thread nD τ).loc main_arg8))
      (m ((c.tc : Thread nD τ).loc main_arg9)) := rfl

section
variable (z : IVec S16384 32) (ty : Fin 16384 → Fin 4) (hz : ∀ i, z (ix1 i) = BitVec.ofNat 32 (ty i).val)
include hz

/-- A type in `0 … 3` is not moved. -/
theorem wrap_apply (i : Fin 16384) : wrap z (ix2 i 0) = BitVec.ofNat 32 (ty i).val := by
  pointwise [wrap]
  rw [hz i]
  have := (ty i).isLt
  generalize (ty i).val = n at *
  interval_cases n <;> rfl

/-- Every row's start index lies in the table. -/
theorem inTable_apply (i : Fin 16384) : inTable (wrap z) (ix1 i) = 1#1 := by
  pointwise [inTable]
  simp only [Finset.univ_unique, Finset.fold_singleton]
  have e : wrap z (ix2 i 0) = _ := wrap_apply z ty hz i
  have := (ty i).isLt
  generalize (ty i).val = n at *
  simp only [Fin.default_eq_zero, e]
  interval_cases n <;> rfl

/-- A row's matrix is its type's. -/
theorem matrices_apply (w : FVec Ideal S4x128x128 .f32) (i : Fin 16384) (k h : Fin 128) : matrices z w (ix3 i k h) = w (ix3 (ty i) k h) := by
  have e := gather_matrix w (wrap z) i k h (ty i) (wrap_apply z ty hz i)
  pointwise [matrices]
  rw [inTable_apply z ty hz i, e]
  rfl

/-- A row's vector is its type's. -/
theorem vectors_apply (w : FVec Ideal S4x128 .f32) (i : Fin 16384) (h : Fin 128) : vectors z w (ix2 i h) = w (ix2 (ty i) h) := by
  have e := gather_row w (wrap z) i h (ty i) (wrap_apply z ty hz i)
  pointwise [vectors]
  rw [inTable_apply z ty hz i, e]
  rfl

/-- The reference's scalar as a double sum. -/
theorem scalar_apply (q : FVec Ideal S16384x128 .f32) (w0 : FVec Ideal S4x128x128 .f32) (b0 w1 : FVec Ideal S4x128 .f32)
    (b1 : FVec Ideal S_ .f32) :
    scalar q z w0 b0 w1 b1 ix0 = -(∑ i : Fin 16384, ((∑ h : Fin 128,
      Ideal.tanh ((∑ k : Fin 128, q (ix2 i k) * w0 (ix3 (ty i) k h)) + b0 (ix2 (ty i) h)) * w1 (ix2 (ty i) h)) + b1 ix0)) := by
  pointwise [scalar]
  simp only [matrices_apply z ty hz, vectors_apply z ty hz]

end

end Cert.ReferenceIdeal.Types

end
-- ==== Proof.Conditions.lean ====
/- What the claim's precondition says, read off its two masks. -/
module

public import proofs.«01_k».proof.Pre_types_named_weights_finite
public import Idealize.ShloMosaic.PureOps.Ideal
public import Idealize.ShloMosaic.Lib.Pointwise
public import Idealize.ShloMosaic.Lib.Tactic.WordOmega

@[expose] public section

set_option maxRecDepth 16384

noncomputable section

namespace Cert.Pre_types_named_weights_finite

open Idealize.ShloMosaic

/-- The function's two broadcasts have legal shapes. -/
theorem facts : Facts := ⟨by decide, by decide⟩

/-- A word between 0 and 3 is one of the four types. -/
theorem word_type (w : BitVec 32) (h : IntOp.andi (IntOp.cmpi .sge w 0#32) (IntOp.cmpi .slt w 4#32) = 1#1) :
    ∃ t : Fin 4, w = BitVec.ofNat 32 t.val := by
  have hlt : w.toNat < 4 := by word_omega
  exact ⟨⟨w.toNat, hlt⟩, by simp⟩

/-- A weight below infinity in absolute value cancels with itself. -/
theorem sub_self_of (x : EReal) (h : Ideal.cmp .olt (max x (-x)) (Ideal.ofBits .f32 0x7F800000#32) = 1#1) : x - x = 0 := by
  have ht : Ideal.ofBits .f32 0x7F800000#32 = ⊤ := by simp [Ideal.ofBits, Ideal.ieee]
  rw [ht] at h
  have hlt : max x (-x) < ⊤ := by
    by_contra hn
    simp [Ideal.cmp, hn] at h
  refine EReal.sub_self (fun e => ?_) (fun e => ?_) <;> simp [e] at hlt

section
variable [Facts] (a0 : FVec Ideal S16384x128 .f32) (a1 : FVec Ideal S1x1x3x128 .f32) (a2 : IVec S1x1 32) (a3 : FVec Ideal S16384x3 .f32)
  (z : IVec S16384 32) (a5 : FVec Ideal S3x3 .f32) (a6 : FVec Ideal S4x128x128 .f32) (a7 : FVec Ideal S4x128 .f32)
  (w : FVec Ideal S4x128 .f32) (a9 : FVec Ideal S_ .f32)

/-- Every row names one of the four types. -/
theorem types (h : (fn a0 a1 a2 a3 z a5 a6 a7 w a9).1 = fun _ => 1#1) :
    ∃ ty : Fin 16384 → Fin 4, ∀ i, z (ix1 i) = BitVec.ofNat 32 (ty i).val := by
  refine Classical.skolem.mp fun i => word_type (z (ix1 i)) ?_
  have e := congrFun h (ix1 i)
  pointwise [fn] at e
  exact e

/-- Every output weight is finite. -/
theorem weights (h : (fn a0 a1 a2 a3 z a5 a6 a7 w a9).2 = fun _ => 1#1) (t : Fin 4) (l : Fin 128) : w (ix2 t l) - w (ix2 t l) = 0 := by
  have e := congrFun h (ix2 t l)
  pointwise [fn] at e
  exact sub_self_of _ e

end

end Cert.Pre_types_named_weights_finite

end
-- ==== Proof.Equation.lean ====
/- The equation: from memories that agree on the arguments, the two programs' scalars are one extended real. -/
module

public import proofs.«01_k».proof.Proof.Total
public import proofs.«01_k».proof.Proof.Reference
public import proofs.«01_k».proof.Proof.Conditions
public import proofs.«01_k».proof.Defs

@[expose] public section

set_option maxRecDepth 16384

noncomputable section

namespace Cert.Types

open Idealize.ShloMosaic Idealize.SL.Sem

/-- The side conditions of the precondition's own function. -/
instance preFacts : Cert.Pre_types_named_weights_finite.Facts := Cert.Pre_types_named_weights_finite.facts

/-- Under the precondition the kernel's scalar is the reference's scalar of the same arguments. -/
theorem scalar_eq (m : (ℓ : Loc Cert.KernelIdeal.nD Cert.KernelIdeal.τ Cert.KernelIdeal.sig) → Buf (Elt Ideal) ℓ)
    (hp : Cert.Pre_KernelIdeal_types_named_weights_finite m) (c : Dev Cert.KernelIdeal.nD) :
    Cert.KernelIdeal.Types.result m c
      = Cert.ReferenceIdeal.Types.scalar (m ((c.tc : Thread Cert.KernelIdeal.nD Cert.KernelIdeal.τ).loc Cert.KernelIdeal.main_arg0))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)) := by
  obtain ⟨ty, hz⟩ := Cert.Pre_types_named_weights_finite.types _ _ _ _ _ _ _ _ _ _ (hp c).1
  have hw := Cert.Pre_types_named_weights_finite.weights _ _ _ _ _ _ _ _ _ _ (hp c).2
  have e : Cert.KernelIdeal.Types.result m c ix0 = _ :=
    (Cert.KernelIdeal.Types.result_apply m c ty hz hw).trans
      (Cert.ReferenceIdeal.Types.scalar_apply _ ty hz _ _ _ _ _).symm
  funext j
  have hj : j = ix0 := funext fun a => a.elim0
  rw [hj]
  exact e

/-- Under the precondition and from agreeing arguments, the reference's generated term is the kernel's scalar. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_types_named_weights_finite m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9)) :
    Cert.ReferenceIdeal.Value.res_main_v13 (F := Ideal) m' c = Cert.KernelIdeal.Types.result m c := by
  rw [Cert.ReferenceIdeal.Types.res_eq, h0, h4, h6, h7, h8, h9]
  exact (scalar_eq m hp c).symm

end Cert.Types

end
-- ==== Proof.lean ====
/- The proof of the claim: the frames as generated, the idealization (which rewrote nothing), and the value claim from `Equation`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

open Cert.Types (preFacts)

/-- The value claim: both programs run, and end with the one scalar. -/
theorem algebraic : algebraic_KernelIdeal_ReferenceIdeal_pre_types_named_weights_finite := fun m g m' g' hp hm =>
  ⟨fun c => Cert.KernelIdeal.Types.result m c, Cert.KernelIdeal.Types.run m g,
    (θ_run _ _ _).mono (fun r h c => by
      obtain ⟨h0, _, _, _, h4, _, h6, h7, h8, h9⟩ := hm c
      exact ⟨(h c).1.trans (Cert.Types.value_eq m m' hp c h0 h4 h6 h7 h8 h9), (h c).2⟩)
      (Cert.ReferenceIdeal.Value.run (F := Ideal) m' g')⟩

/-- The reference's frame: its run leaves the arguments alone, and it has no semaphore that could be raised. -/
theorem frame_reference : quiescent_ReferenceIdeal := fun m g _ =>
  (θ_run _ _ _).mono (fun r h => ⟨fun c => (h c).2, sem_eq_zero_of_no_sems (by decide) r.2⟩)
    (Cert.ReferenceIdeal.Value.run (F := Ideal) m g)

/-- The whole claim. -/
theorem claim : Cert.Claim :=
  ⟨Cert.Kernel.Gen.facts, Cert.KernelIdeal.Gen.facts, Cert.ReferenceIdeal.Gen.facts, preFacts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    algebraic⟩

end Cert.Proof

end
